-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n_pairs" .f32 0x37004020#32 ((130816⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x128 : Shape := ⟨2, ![512, 128]⟩
abbrev S512 : Shape := ⟨1, ![512]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) (main_arg1 : IVec S512 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S512x128 : Shape := ⟨2, ![512, 128]⟩
abbrev S512 : Shape := ⟨1, ![512]⟩
abbrev S512x1 : Shape := ⟨2, ![512, 1]⟩
abbrev S1x1 : Shape := ⟨2, ![1, 1]⟩
abbrev S512x512 : Shape := ⟨2, ![512, 512]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 3
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x1, .i32⟩
  | .hbm, ⟨3, _⟩ => ⟨S1x1, .f32⟩
  | .hbm, ⟨4, _⟩ => ⟨S_, .f32⟩
  | .local _ .vmem, ⟨0, _⟩ => ⟨S512x128, .f32⟩
  | .local _ .vmem, ⟨1, _⟩ => ⟨S512x1, .i32⟩
  | .local _ .vmem, ⟨2, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "inv_n_pairs" => some ((130816⁻¹ : ℝ) : EReal)
  | _ => none
-- ==== ReferenceIdeal.lean ====
abbrev S512x128 : Shape := ⟨2, ![512, 128]⟩
abbrev S512 : Shape := ⟨1, ![512]⟩
abbrev S130816 : Shape := ⟨1, ![130816]⟩
abbrev S_ : Shape := ⟨0, ![]⟩
abbrev S511 : Shape := ⟨1, ![511]⟩
abbrev S1x511 : Shape := ⟨2, ![1, 511]⟩
abbrev S130816x1 : Shape := ⟨2, ![130816, 1]⟩
abbrev S130816x511 : Shape := ⟨2, ![130816, 511]⟩
abbrev S1 : Shape := ⟨1, ![1]⟩
abbrev S1x1 : Shape := ⟨2, ![1, 1]⟩
abbrev S130816x128 : Shape := ⟨2, ![130816, 128]⟩

abbrev nBuf : Space → Nat
  | .hbm => 150
  | .vmem => 0
  | .smem => 0
  | _ => 0

abbrev hbmTy0_0 (i : Nat) : BufTy := match i % 128 with
  | 0 => ⟨S512x128, .f32⟩
  | 1 => ⟨S512, .i32⟩
  | 2 => ⟨S130816, .i32⟩
  | 3 => ⟨S512, .i32⟩
  | 4 => ⟨S_, .i32⟩
  | 5 => ⟨S512, .i32⟩
  | 6 => ⟨S512, .i32⟩
  | 7 => ⟨S512, .i32⟩
  | 8 => ⟨S_, .i32⟩
  | 9 => ⟨S512, .i32⟩
  | 10 => ⟨S512, .i32⟩
  | 11 => ⟨S511, .i32⟩
  | 12 => ⟨S1x511, .i32⟩
  | 13 => ⟨S130816x1, .i32⟩
  | 14 => ⟨S130816x511, .i32⟩
  | 15 => ⟨S130816x511, .i32⟩
  | 16 => ⟨S130816x511, .i1⟩
  | 17 => ⟨S130816x511, .i32⟩
  | 18 => ⟨S_, .i32⟩
  | 19 => ⟨S130816, .i32⟩
  | 20 => ⟨S_, .i32⟩
  | 21 => ⟨S130816, .i32⟩
  | 22 => ⟨S130816, .i32⟩
  | 23 => ⟨S130816, .i32⟩
  | 24 => ⟨S_, .i32⟩
  | 25 => ⟨S130816, .i32⟩
  | 26 => ⟨S130816, .i32⟩
  | 27 => ⟨S130816, .i32⟩
  | 28 => ⟨S130816, .i32⟩
  | 29 => ⟨S_, .i32⟩
  | 30 => ⟨S130816, .i32⟩
  | 31 => ⟨S130816, .i32⟩
  | 32 => ⟨S_, .i32⟩
  | 33 => ⟨S130816, .i32⟩
  | 34 => ⟨S130816, .i1⟩
  | 35 => ⟨S_, .i32⟩
  | 36 => ⟨S130816, .i32⟩
  | 37 => ⟨S130816, .i32⟩
  | 38 => ⟨S130816, .i32⟩
  | 39 => ⟨S130816x1, .i32⟩
  | 40 => ⟨S1, .i32⟩
  | 41 => ⟨S_, .i32⟩
  | 42 => ⟨S130816x1, .i32⟩
  | 43 => ⟨S130816x1, .i1⟩
  | 44 => ⟨S1x1, .i32⟩
  | 45 => ⟨S130816x1, .i32⟩
  | 46 => ⟨S130816x1, .i1⟩
  | 47 => ⟨S130816x1, .i1⟩
  | 48 => ⟨S_, .i1⟩
  | 49 => ⟨S130816, .i1⟩
  | 50 => ⟨S130816x128, .f32⟩
  | 51 => ⟨S130816x128, .i1⟩
  | 52 => ⟨S_, .f32⟩
  | 53 => ⟨S130816x128, .f32⟩
  | 54 => ⟨S130816x128, .f32⟩
  | 55 => ⟨S_, .i32⟩
  | 56 => ⟨S130816, .i32⟩
  | 57 => ⟨S130816, .i1⟩
  | 58 => ⟨S_, .i32⟩
  | 59 => ⟨S130816, .i32⟩
  | 60 => ⟨S130816, .i32⟩
  | 61 => ⟨S130816, .i32⟩
  | 62 => ⟨S130816x1, .i32⟩
  | 63 => ⟨S1, .i32⟩
  | 64 => ⟨S_, .i32⟩
  | 65 => ⟨S130816x1, .i32⟩
  | 66 => ⟨S130816x1, .i1⟩
  | 67 => ⟨S1x1, .i32⟩
  | 68 => ⟨S130816x1, .i32⟩
  | 69 => ⟨S130816x1, .i1⟩
  | 70 => ⟨S130816x1, .i1⟩
  | 71 => ⟨S_, .i1⟩
  | 72 => ⟨S130816, .i1⟩
  | 73 => ⟨S130816x128, .f32⟩
  | 74 => ⟨S130816x128, .i1⟩
  | 75 => ⟨S_, .f32⟩
  | 76 => ⟨S130816x128, .f32⟩
  | 77 => ⟨S130816x128, .f32⟩
  | 78 => ⟨S130816x128, .f32⟩
  | 79 => ⟨S130816x128, .f32⟩
  | 80 => ⟨S_, .f32⟩
  | 81 => ⟨S130816, .f32⟩
  | 82 => ⟨S_, .i32⟩
  | 83 => ⟨S130816, .i32⟩
  | 84 => ⟨S130816, .i1⟩
  | 85 => ⟨S_, .i32⟩
  | 86 => ⟨S130816, .i32⟩
  | 87 => ⟨S130816, .i32⟩
  | 88 => ⟨S130816, .i32⟩
  | 89 => ⟨S130816x1, .i32⟩
  | 90 => ⟨S1, .i32⟩
  | 91 => ⟨S_, .i32⟩
  | 92 => ⟨S130816x1, .i32⟩
  | 93 => ⟨S130816x1, .i1⟩
  | 94 => ⟨S1x1, .i32⟩
  | 95 => ⟨S130816x1, .i32⟩
  | 96 => ⟨S130816x1, .i1⟩
  | 97 => ⟨S130816x1, .i1⟩
  | 98 => ⟨S_, .i1⟩
  | 99 => ⟨S130816, .i1⟩
  | 100 => ⟨S130816, .i32⟩
  | 101 => ⟨S_, .i32⟩
  | 102 => ⟨S130816, .i32⟩
  | 103 => ⟨S130816, .i32⟩
  | 104 => ⟨S_, .i32⟩
  | 105 => ⟨S130816, .i32⟩
  | 106 => ⟨S130816, .i1⟩
  | 107 => ⟨S_, .i32⟩
  | 108 => ⟨S130816, .i32⟩
  | 109 => ⟨S130816, .i32⟩
  | 110 => ⟨S130816, .i32⟩
  | 111 => ⟨S130816x1, .i32⟩
  | 112 => ⟨S1, .i32⟩
  | 113 => ⟨S_, .i32⟩
  | 114 => ⟨S130816x1, .i32⟩
  | 115 => ⟨S130816x1, .i1⟩
  | 116 => ⟨S1x1, .i32⟩
  | 117 => ⟨S130816x1, .i32⟩
  | 118 => ⟨S130816x1, .i1⟩
  | 119 => ⟨S130816x1, .i1⟩
  | 120 => ⟨S_, .i1⟩
  | 121 => ⟨S130816, .i1⟩
  | 122 => ⟨S130816, .i32⟩
  | 123 => ⟨S_, .i32⟩
  | 124 => ⟨S130816, .i32⟩
  | 125 => ⟨S130816, .i32⟩
  | 126 => ⟨S130816, .i1⟩
  | 127 => ⟨S130816, .f32⟩
  | _ => ⟨S512x128, .f32⟩

abbrev hbmTy0_1 (i : Nat) : BufTy := match i % 128 with
  | 0 => ⟨S_, .f32⟩
  | 1 => ⟨S130816, .f32⟩
  | 2 => ⟨S130816, .f32⟩
  | 3 => ⟨S_, .f32⟩
  | 4 => ⟨S130816, .f32⟩
  | 5 => ⟨S130816, .f32⟩
  | 6 => ⟨S130816, .f32⟩
  | 7 => ⟨S_, .f32⟩
  | 8 => ⟨S_, .f32⟩
  | 9 => ⟨S130816, .f32⟩
  | 10 => ⟨S130816, .f32⟩
  | 11 => ⟨S_, .f32⟩
  | 12 => ⟨S_, .f32⟩
  | 13 => ⟨S_, .f32⟩
  | 14 => ⟨S_, .f32⟩
  | 15 => ⟨S130816, .f32⟩
  | 16 => ⟨S130816, .f32⟩
  | 17 => ⟨S_, .f32⟩
  | 18 => ⟨S_, .f32⟩
  | 19 => ⟨S_, .f32⟩
  | 20 => ⟨S_, .f32⟩
  | 21 => ⟨S_, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v24 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst : Ref sig .tc := ⟨.hbm, 80, rfl⟩
abbrev main_v28 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_c_4 : Ref sig .tc := ⟨.hbm, 101, rfl⟩
abbrev main_call2_v14 : Ref sig .tc := ⟨.hbm, 102, rfl⟩
abbrev main_v29 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_c_1 : Ref sig .tc := ⟨.hbm, 112, rfl⟩
abbrev main_call3_c_2 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_3 : Ref sig .tc := ⟨.hbm, 120, rfl⟩
abbrev main_call3_v12 : Ref sig .tc := ⟨.hbm, 121, rfl⟩
abbrev main_call3_v13 : Ref sig .tc := ⟨.hbm, 122, rfl⟩
abbrev main_call3_c_4 : Ref sig .tc := ⟨.hbm, 123, rfl⟩
abbrev main_call3_v14 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_cst_5 : Ref sig .tc := ⟨.hbm, 128, rfl⟩
abbrev main_v33 : Ref sig .tc := ⟨.hbm, 129, rfl⟩
abbrev main_v34 : Ref sig .tc := ⟨.hbm, 130, rfl⟩
abbrev main_call4_cst : Ref sig .tc := ⟨.hbm, 131, rfl⟩
abbrev main_call4_v0 : Ref sig .tc := ⟨.hbm, 132, rfl⟩
abbrev main_v35 : Ref sig .tc := ⟨.hbm, 133, rfl⟩
abbrev main_v36 : Ref sig .tc := ⟨.hbm, 134, rfl⟩
abbrev main_cst_6 : Ref sig .tc := ⟨.hbm, 135, rfl⟩
abbrev main_call5_v0 : Ref sig .tc := ⟨.hbm, 136, rfl⟩
abbrev main_call5_v1 : Ref sig .tc := ⟨.hbm, 137, rfl⟩
abbrev main_v37 : Ref sig .tc := ⟨.hbm, 138, rfl⟩
abbrev main_cst_7 : Ref sig .tc := ⟨.hbm, 139, rfl⟩
abbrev main_v38 : Ref sig .tc := ⟨.hbm, 140, rfl⟩
abbrev main_cst_8 : Ref sig .tc := ⟨.hbm, 141, rfl⟩
abbrev main_call6_v0 : Ref sig .tc := ⟨.hbm, 142, rfl⟩
abbrev main_call6_v1 : Ref sig .tc := ⟨.hbm, 143, rfl⟩
abbrev main_v39 : Ref sig .tc := ⟨.hbm, 144, rfl⟩
abbrev main_cst_9 : Ref sig .tc := ⟨.hbm, 145, rfl⟩
abbrev main_v40 : Ref sig .tc := ⟨.hbm, 146, rfl⟩
abbrev main_v41 : Ref sig .tc := ⟨.hbm, 147, rfl⟩
abbrev main_cst_10 : Ref sig .tc := ⟨.hbm, 148, rfl⟩
abbrev main_v42 : Ref sig .tc := ⟨.hbm, 149, rfl⟩

abbrev nD : Nat := 1
abbrev τ : Topo := Topo.v7x

variable {F : FTy → Type} [FloatOps F]
-- ==== Proof.Loss.lean ====
/- The loss as a function of the embeddings `x` (512 rows of 128 numbers) and the targets `t` (512 words), and the float
   constants of the two programs as numbers. -/
module

public import Idealize.ShloMosaic.Lib.ValueIdx
public import Idealize.ShloMosaic.PureOps.Ideal.Laws
public import Idealize.ShloMosaic.Lib.IdealHost

@[expose] public section

noncomputable section

namespace Cert.Loss

open Idealize.ShloMosaic Idealize.ShloMosaic.ValueIdx

/-- Embeddings: 512 rows of 128 extended reals. -/
abbrev Emb := (⟨2, ![512, 128]⟩ : Shape).Idx → EReal

/-- Targets: 512 words. -/
abbrev Tgt := (⟨1, ![512]⟩ : Shape).Idx → BitVec 32

/-- The squared distance of rows `a` and `b`. -/
def sqDist (x : Emb) (a b : Fin 512) : EReal :=
  ∑ d : Fin 128, (x (ix2 a d) - x (ix2 b d)) * (x (ix2 a d) - x (ix2 b d))

/-- The contribution of a pair at squared distance `q`: `q` itself if the two targets agree (`same` is 1), otherwise the
    square of what the distance falls short of 1. -/
def contribution (same : BitVec 1) (q : EReal) : EReal :=
  Scalar.select same q (max (1 - Ideal.sqrt q) 0 * max (1 - Ideal.sqrt q) 0)

/-- The contribution of rows `a` and `b`. -/
def pairLoss (x : Emb) (t : Tgt) (a b : Fin 512) : EReal :=
  contribution (IntOp.cmpi .eq (t (ix1 a)) (t (ix1 b))) (sqDist x a b)

/-- The sum of the contributions over all pairs `a < b`. -/
def total (x : Emb) (t : Tgt) : EReal :=
  ∑ a : Fin 512, ∑ b : Fin 512, if a.val < b.val then pairLoss x t a b else 0

/-- The loss: the mean of the contributions over the 130816 pairs. -/
def loss (x : Emb) (t : Tgt) : EReal := total x t * ((130816⁻¹ : ℝ) : EReal)

/-- The word `0x3F800000` is the number 1. -/
theorem word_one : Ideal.ofBits .f32 0x3F800000#32 = 1 := Ideal.ofBits_one_f32

/-- The word `0x40000000` is the number 2. -/
theorem word_two : Ideal.ofBits .f32 0x40000000#32 = ((2 : ℝ) : EReal) := by
  simp [Ideal.ofBits, Ideal.ieee, -EReal.coe_mul]
  norm_num

/-- The word `0x47FF8000` is the number 130816. -/
theorem word_pairs : Ideal.ofBits .f32 0x47FF8000#32 = ((130816 : ℝ) : EReal) := by
  simp [Ideal.ofBits, Ideal.ieee, -EReal.coe_mul]
  norm_num

/-- The word `0x7F800000` is infinity. -/
theorem word_top : Ideal.ofBits .f32 0x7F800000#32 = ⊤ := by
  simp [Ideal.ofBits, Ideal.ieee]

end Cert.Loss

end
-- ==== Proof.Finite.lean ====
/- What the precondition says of the embeddings: every entry is a real number. -/
module

public import proofs.«01_k».proof.Proof.Gen.Pre_finite
public import proofs.«01_k».proof.Proof.Loss
public import Idealize.ShloMosaic.Lib.ReduceAll

@[expose] public section

noncomputable section

namespace Cert.Finite

open Cert.Pre_finite Cert.Loss
open Idealize.ShloMosaic Idealize.ShloMosaic.ValueIdx

/-- An extended real whose absolute value lies below the top is neither of the two infinities. -/
theorem ne_top_bot {a : EReal} (h : max a (-a) < ⊤) : a ≠ ⊤ ∧ a ≠ ⊥ := by
  obtain ⟨h₁, h₂⟩ := max_lt_iff.mp h
  refine ⟨h₁.ne, fun e => ?_⟩
  rw [e, EReal.neg_bot] at h₂
  exact lt_irrefl _ h₂

/-- A comparison "less than" that answers one compares a smaller with a larger extended real. -/
theorem lt_of_cmp {a b : EReal} (h : Ideal.cmp .olt a b = 1#1) : a < b := by
  by_contra hn
  simp [Ideal.cmp, hn] at h

/-- Where the precondition holds, no entry of the embeddings is infinite. -/
theorem entries (x : Emb) (t : Tgt) (h : Cert.Pre_finite.fn (F := Ideal) x t = fun _ => 1#1) (i : S512x128.Idx) :
    x i ≠ ⊤ ∧ x i ≠ ⊥ := by
  haveI : Subsingleton S_.Idx := ⟨fun a b => funext fun k => k.elim0⟩
  have e := Host.reduce_andi_all _ _ _ _ (fun k => k.elim0) (congrFun h fun k => k.elim0) i
  have hlt : max (x i) (-(x i)) < Ideal.ofBits .f32 0x7F800000#32 := lt_of_cmp e
  rw [word_top] at hlt
  exact ne_top_bot hlt

end Cert.Finite

end
-- ==== Proof.Triangle.lean ====
/- The pairs `(a, b)` with `a < b < 512`, numbered row by row from 0 to 130815. Row `a` starts at pair
   `a (1023 - a) / 2`; the row of pair `k` is the number of later rows that start at or before `k`; and a sum over
   all pair numbers is the sum over the whole 512 × 512 square with everything on or below the diagonal left out. -/
module

public import Idealize.ShloMosaic.PureOps.Ideal.Laws

@[expose] public section

noncomputable section

namespace Cert.Triangle

/-- The number of the first pair of row `a`. -/
def rowStart (a : Nat) : Nat := a * (1023 - a) / 2

/-- The row of pair `k`: how many of the rows 1, …, 511 start at or before it. -/
def rowOf (k : Nat) : Nat := (Finset.univ.filter fun q : Fin 511 => rowStart (1 + q.val) ≤ k).card

/-- The column of pair `k`: its position in its row, counted from just right of the diagonal. -/
def colOf (k : Nat) : Nat := k - rowStart (rowOf k) + rowOf k + 1

/-- The product halved in a row's start is even. -/
theorem two_mul_rowStart (a : Nat) (ha : a ≤ 1023) : 2 * rowStart a = a * (1023 - a) := by
  refine Nat.mul_div_cancel' ?_
  rcases Nat.even_or_odd' a with ⟨c, hc | hc⟩
  · exact Dvd.dvd.mul_right ⟨c, hc⟩ _
  · exact Dvd.dvd.mul_left ⟨511 - c, by omega⟩ _

/-- Row `a` has `511 - a` pairs. -/
theorem rowStart_succ (a : Nat) (ha : a ≤ 511) : rowStart (a + 1) = rowStart a + (511 - a) := by
  obtain ⟨d, hd⟩ : ∃ d, 511 = a + d := ⟨511 - a, by omega⟩
  have h0 := two_mul_rowStart a (by omega)
  have h1 := two_mul_rowStart (a + 1) (by omega)
  rw [show 1023 - a = 512 + d by omega] at h0
  rw [show 1023 - (a + 1) = 511 + d by omega] at h1
  rw [show 511 - a = d by omega]
  nlinarith

/-- Rows start in order. -/
theorem rowStart_mono {a b : Nat} (h : a ≤ b) (hb : b ≤ 512) : rowStart a ≤ rowStart b := by
  induction b, h using Nat.le_induction with
  | base => exact le_rfl
  | succ b hab ih =>
    have h1 := ih (by omega)
    have h2 := rowStart_succ b (by omega)
    omega

theorem rowStart_zero : rowStart 0 = 0 := rfl

theorem rowStart_last : rowStart 511 = 130816 := by decide

/-- The row of a pair between the start of row `a` and the start of the next is `a`. -/
theorem rowOf_eq {k a : Nat} (ha : a ≤ 510) (h : rowStart a ≤ k) (h' : k < rowStart (a + 1)) : rowOf k = a := by
  have e : (Finset.univ.filter fun q : Fin 511 => rowStart (1 + q.val) ≤ k)
      = Finset.univ.filter fun q : Fin 511 => q.val < a := by
    refine Finset.filter_congr fun q _ => ?_
    have hq := q.isLt
    constructor
    · intro hk
      by_contra hlt
      have := rowStart_mono (show a + 1 ≤ 1 + q.val by omega) (by omega)
      omega
    · intro hlt
      exact le_trans (rowStart_mono (by omega) (by omega)) h
  rw [rowOf, e, Fin.card_filter_val_lt]
  omega

/-- Every pair number lies in a row. -/
theorem exists_row {k : Nat} (hk : k < 130816) : ∃ a, a ≤ 510 ∧ rowStart a ≤ k ∧ k < rowStart (a + 1) := by
  have key : ∀ n, n ≤ 511 → k < rowStart n → ∃ a, a < n ∧ rowStart a ≤ k ∧ k < rowStart (a + 1) := by
    intro n
    induction n with
    | zero => intro _ h; exact absurd h (by rw [rowStart_zero]; omega)
    | succ n ih =>
      intro hn h
      by_cases hlt : k < rowStart n
      · obtain ⟨a, h1, h2⟩ := ih (by omega) hlt
        exact ⟨a, by omega, h2⟩
      · exact ⟨n, by omega, by omega, h⟩
  obtain ⟨a, h1, h2⟩ := key 511 le_rfl (by rw [rowStart_last]; exact hk)
  exact ⟨a, by omega, h2⟩

/-- What the row and column of a pair number are: the row is at most 510, the column is right of the diagonal and at
    most 511, and the pair number is the row's start plus the distance from the diagonal. -/
theorem row_col {k : Nat} (hk : k < 130816) :
    rowOf k ≤ 510 ∧ rowStart (rowOf k) ≤ k ∧ rowOf k < colOf k ∧ colOf k ≤ 511
      ∧ k = rowStart (rowOf k) + (colOf k - rowOf k - 1) := by
  obtain ⟨a, ha, h, h'⟩ := exists_row hk
  have e := rowOf_eq ha h h'
  have hs := rowStart_succ a (by omega)
  unfold colOf
  rw [e]
  omega

/-- The pair `(a, b)` has number `rowStart a + (b - a - 1)`, below 130816, with row `a` and column `b`. -/
theorem of_pair {a b : Nat} (hab : a < b) (hb : b < 512) :
    rowStart a + (b - a - 1) < 130816 ∧ rowOf (rowStart a + (b - a - 1)) = a
      ∧ colOf (rowStart a + (b - a - 1)) = b := by
  have hs := rowStart_succ a (by omega)
  have hm := rowStart_mono (show a + 1 ≤ 511 by omega) (by omega)
  rw [rowStart_last] at hm
  have e : rowOf (rowStart a + (b - a - 1)) = a := rowOf_eq (by omega) (by omega) (by omega)
  refine ⟨by omega, e, ?_⟩
  unfold colOf
  rw [e]
  omega

/-- The row of pair `k`, as an index below 512. -/
def rowFin (k : Fin 130816) : Fin 512 := ⟨rowOf k.val, by have := (row_col k.isLt).1; omega⟩

/-- The column of pair `k`, as an index below 512. -/
def colFin (k : Fin 130816) : Fin 512 := ⟨colOf k.val, by have := (row_col k.isLt).2.2.2.1; omega⟩

/-- A sum over the pair numbers is the sum over the square with everything on or below the diagonal replaced by 0. -/
theorem sum_pairs {M : Type} [AddCommMonoid M] (f : Fin 512 → Fin 512 → M) :
    ∑ k : Fin 130816, f (rowFin k) (colFin k)
      = ∑ a : Fin 512, ∑ b : Fin 512, if a.val < b.val then f a b else 0 := by
  rw [← Fintype.sum_prod_type' (f := fun a b : Fin 512 => if a.val < b.val then f a b else 0), ← Finset.sum_filter]
  refine Finset.sum_bij' (fun k _ => (rowFin k, colFin k))
    (fun p hp => ⟨rowStart p.1.val + (p.2.val - p.1.val - 1),
      (of_pair (Finset.mem_filter.1 hp).2 p.2.isLt).1⟩) ?_ ?_ ?_ ?_ ?_
  · intro k _
    exact Finset.mem_filter.2 ⟨Finset.mem_univ _, (row_col k.isLt).2.2.1⟩
  · intro p _
    exact Finset.mem_univ _
  · intro k _
    exact Fin.ext (row_col k.isLt).2.2.2.2.symm
  · intro p hp
    have h := of_pair (Finset.mem_filter.1 hp).2 p.2.isLt
    exact Prod.ext (Fin.ext h.2.1) (Fin.ext h.2.2)
  · intro k _
    rfl

end Cert.Triangle

end
-- ==== Proof.Indices.lean ====
/- The two index vectors the reference builds: entry `k` of the first is the row, and of the second the column, of pair
   number `k` of the strict upper triangle. -/
module

public import proofs.«01_k».proof.Proof.Gen.ReferenceIdeal.Read
public import proofs.«01_k».proof.Proof.Triangle
public import Idealize.ShloMosaic.Lib.StableHlo.Predicate

@[expose] public section

noncomputable section

namespace Cert.Indices

open Cert.ReferenceIdeal Cert.ReferenceIdeal.Gen Cert.ReferenceIdeal.Read Cert.Triangle
open Idealize.ShloMosaic Idealize.ShloMosaic.StableHlo.Predicate

variable {F : FTy → Type} [FloatOps F]

/-- In 32-bit words, `a (1023 - a) / 2` for `a` up to 511 is the start of row `a`: nothing wraps. -/
theorem word_rowStart (a : Nat) (ha : a ≤ 511) :
    IntOp.divsi .host (IntOp.muli (BitVec.ofNat 32 a) (IntOp.subi 1023#32 (BitVec.ofNat 32 a))) 2#32
      = BitVec.ofNat 32 (rowStart a) := by
  have hp : a * (1023 - a) ≤ 511 * 1023 := Nat.mul_le_mul ha (by omega)
  have hs : IntOp.subi 1023#32 (BitVec.ofNat 32 a) = BitVec.ofNat 32 (1023 - a) := by
    apply BitVec.eq_of_toNat_eq
    simp only [IntOp.subi, BitVec.toNat_sub, BitVec.toNat_ofNat]
    omega
  have hm : IntOp.muli (BitVec.ofNat 32 a) (BitVec.ofNat 32 (1023 - a)) = BitVec.ofNat 32 (a * (1023 - a)) := by
    apply BitVec.eq_of_toNat_eq
    simp only [IntOp.muli, BitVec.toNat_mul, BitVec.toNat_ofNat, ← Nat.mul_mod]
  have hn : (BitVec.ofNat 32 (a * (1023 - a))).toNat = a * (1023 - a) := by
    rw [BitVec.toNat_ofNat]; omega
  rw [hs, hm]
  apply BitVec.eq_of_toNat_eq
  rw [divsi_two .host _ (by omega), hn, BitVec.toNat_ofNat, rowStart]
  omega

/-- Entry `a` of the table of row starts. -/
theorem starts_apply (i : S512.Idx) : val_main_v6 (F := F) i = BitVec.ofNat 32 (rowStart (i 0).val) := by
  have hi : (i 0).val < 512 := (i 0).isLt
  rw [val_main_v6_apply, val_main_v4_apply, val_main_v3_apply, val_main_v2_apply, val_main_v5_apply,
    val_main_v1_apply, val_main_c_apply, val_main_c_0_apply]
  exact word_rowStart _ (by omega)

/-- Row starts stay far below the range of a signed word. -/
theorem rowStart_lt (a : Nat) (ha : a ≤ 511) : rowStart a < 2 ^ 31 := by
  have := rowStart_mono ha (by omega)
  rw [rowStart_last] at this
  omega

/-- The comparison of the start of row `1 + q` with pair number `k`. -/
theorem mask_apply (i : S130816x511.Idx) :
    val_main_v12 (F := F) i = 1#1 ↔ rowStart (1 + (i 1).val) ≤ (i 0).val := by
  have h0 : (i 0).val < 130816 := (i 0).isLt
  have h1 : (i 1).val < 511 := (i 1).isLt
  have hr := rowStart_lt (1 + (i 1).val) (by omega)
  rw [val_main_v12_apply, val_main_v10_apply, val_main_v8_apply, val_main_v7_apply, starts_apply, val_main_v11_apply,
    val_main_v9_apply, val_main_v0_apply]
  show IntOp.cmpi .sle (BitVec.ofNat 32 (rowStart (1 + (i 1).val))) (BitVec.ofNat 32 (i 0).val) = 1#1 ↔ _
  have ha : (BitVec.ofNat 32 (rowStart (1 + (i 1).val))).toNat = rowStart (1 + (i 1).val) := by
    rw [BitVec.toNat_ofNat]; omega
  have hb : (BitVec.ofNat 32 (i 0).val).toNat = (i 0).val := by
    rw [BitVec.toNat_ofNat]; omega
  rw [sle_iff_toNat (by omega) (by omega), ha, hb]

/-- Entry `k` of the first index vector is the row of pair `k`. -/
theorem row_apply (i : S130816.Idx) : val_main_v14 (F := F) i = BitVec.ofNat 32 (rowOf (i 0).val) := by
  have h0 : (i 0).val < 130816 := (i 0).isLt
  have hr := (row_col h0).1
  apply BitVec.eq_of_toNat_eq
  have hc : (val_main_v14 (F := F) i).toNat
      = (Finset.univ.filter fun q : Fin 511 => val_main_v12 (F := F) (ij (i 0) q) = 1#1).card :=
    toNat_reduce_count_cols (n := 130816) (m := 511) (by omega) (val_main_v12 (F := F)) natLt_1_32
      reducesTo_S130816x511_S130816_d1 h_S_ i
  have hf : (Finset.univ.filter fun q : Fin 511 => val_main_v12 (F := F) (ij (i 0) q) = 1#1)
      = Finset.univ.filter fun q : Fin 511 => rowStart (1 + q.val) ≤ (i 0).val :=
    Finset.filter_congr fun q _ => mask_apply (F := F) (ij (i 0) q)
  rw [hc, hf, BitVec.toNat_ofNat]
  show rowOf (i 0).val = _
  omega

/-- Entry `k` of the second index vector is the column of pair `k`. -/
theorem col_apply (i : S130816.Idx) : val_main_v23 (F := F) i = BitVec.ofNat 32 (colOf (i 0).val) := by
  have h0 : (i 0).val < 130816 := (i 0).isLt
  obtain ⟨hr, hs, -, hc, -⟩ := row_col h0
  have hl := rowStart_lt (rowOf (i 0).val) (by omega)
  rw [val_main_v23_apply, val_main_v21_apply, val_main_v20_apply, val_main_v19_apply, val_main_v17_apply,
    val_main_v16_apply, val_main_v15_apply, val_main_v18_apply, val_main_v22_apply, val_main_c_2_apply,
    val_main_c_3_apply, val_main_c_4_apply, val_main_v0_apply, row_apply, word_rowStart _ (by omega)]
  apply BitVec.eq_of_toNat_eq
  simp only [IntOp.subi, IntOp.addi, BitVec.toNat_add, BitVec.toNat_sub, BitVec.toNat_ofNat]
  unfold colOf
  omega

end Cert.Indices

end
-- ==== Proof.Takes.lean ====
/- What the reference takes by its index vectors: for pair number `k` the rows of the embeddings, and the entries of the
   targets, at the pair's row and column. Every index is in range, so the fill value of an index out of range is never
   chosen. -/
module

public import proofs.«01_k».proof.Proof.Indices
public import Idealize.ShloMosaic.Lib.ReduceAll
public import Idealize.ShloMosaic.Lib.Routing.OpsSet

@[expose] public section

noncomputable section

namespace Cert.Takes

open Cert.ReferenceIdeal Cert.ReferenceIdeal.Gen Cert.ReferenceIdeal.Read Cert.Triangle Cert.Indices
open Idealize.ShloMosaic Idealize.ShloMosaic.StableHlo.Predicate Idealize.ShloMosaic.ValueIdx

variable {F : FTy → Type} [FloatOps F]

/-- An index word that is not negative is left as it is by the wrap of negative indices. -/
theorem wrap_word (n : Nat) (hn : n ≤ 511) :
    Scalar.select (IntOp.cmpi .slt (BitVec.ofNat 32 n) 0#32) (IntOp.addi (BitVec.ofNat 32 n) 512#32) (BitVec.ofNat 32 n)
      = BitVec.ofNat 32 n := by
  have hw : (BitVec.ofNat 32 n).toNat = n := by rw [BitVec.toNat_ofNat]; omega
  have h : ¬ IntOp.cmpi .slt (BitVec.ofNat 32 n) 0#32 = 1#1 := by
    rw [slt_iff_toNat (by omega) (by decide), hw]
    exact Nat.not_lt_zero n
  unfold Scalar.select
  exact if_neg h

/-- An index word from 0 to 511 passes the range check. -/
theorem range_word (n : Nat) (hn : n ≤ 511) :
    IntOp.andi (IntOp.cmpi .sge (BitVec.ofNat 32 n) 0#32) (IntOp.cmpi .sle (BitVec.ofNat 32 n) 511#32) = 1#1 := by
  have hw : (BitVec.ofNat 32 n).toNat = n := by rw [BitVec.toNat_ofNat]; omega
  have h0 : IntOp.cmpi .sge (BitVec.ofNat 32 n) 0#32 = 1#1 := by
    rw [sge_iff_toNat (by omega) (by decide)]
    exact Nat.zero_le _
  have h1 : IntOp.cmpi .sle (BitVec.ofNat 32 n) 511#32 = 1#1 := by
    rw [sle_iff_toNat (by omega) (by decide), hw]
    exact hn
  rw [h0, h1]
  rfl

theorem row_le (i : S130816.Idx) : rowOf (i 0).val ≤ 511 := by
  have := (row_col (show (i 0).val < 130816 from (i 0).isLt)).1
  omega

theorem col_le (i : S130816.Idx) : colOf (i 0).val ≤ 511 :=
  (row_col (show (i 0).val < 130816 from (i 0).isLt)).2.2.2.1

/-- Take 0: the start index of pair `k` is its row. -/
theorem start0_apply (i : S130816x1.Idx) :
    val_main_call0_v5 (F := F) i = BitVec.ofNat 32 (rowOf (i 0).val) := by
  rw [val_main_call0_v5_apply, val_main_call0_v4_apply, val_main_call0_v1_apply, val_main_call0_v3_apply, val_main_call0_v0_apply,
    val_main_call0_v2_apply, val_main_call0_c_apply, val_main_call0_c_0_apply, row_apply]
  exact wrap_word _ (row_le (idx_main_call0_v5 i))

/-- Take 0: every index is in range. -/
theorem inRange0 (i : S130816.Idx) : val_main_call0_v12 (F := F) i = 1#1 := by
  refine Host.reduce_andi_one _ _ _ _ i rfl fun j => ?_
  rw [val_main_call0_v11_apply, val_main_call0_v7_apply, val_main_call0_v10_apply, val_main_call0_v6_apply, val_main_call0_v9_apply,
    val_main_call0_v8_apply, val_main_call0_c_1_apply, val_main_call0_c_2_apply, start0_apply]
  exact range_word _ (row_le (idx_main_call0_v5 j))

/-- Take 0: row `k` of the result is the embedding at the pair's row. -/
theorem take0_apply (x0 : (⟨S512x128, .f32⟩ : BufTy).Contents (Elt F)) (k : Fin 130816) (d : Fin 128) :
    val_main_v24 (F := F) x0 (ix2 k d) = x0 (ix2 (rowFin k) d) := by
  rw [val_main_v24_apply, val_main_call0_v14_apply, inRange0]
  refine (show Scalar.select (1#1 : BitVec 1) _ _ = val_main_call0_v13 (F := F) x0 (ix2 k d) from if_pos rfl).trans ?_
  exact Routing.gather_row (nb := 512) (B := 128) (n := 130816) gather_S512x128_S130816x1_S130816x128_1_0_n_n_0_1_1128
    rfl rfl rfl rfl rfl x0 (val_main_call0_v5 (F := F)) k d (rowFin k) (start0_apply (F := F) (ix2 k (0 : Fin 1))) (by omega)

/-- Take 1: the start index of pair `k` is its column. -/
theorem start1_apply (i : S130816x1.Idx) :
    val_main_call1_v5 (F := F) i = BitVec.ofNat 32 (colOf (i 0).val) := by
  rw [val_main_call1_v5_apply, val_main_call1_v4_apply, val_main_call1_v1_apply, val_main_call1_v3_apply, val_main_call1_v0_apply,
    val_main_call1_v2_apply, val_main_call1_c_apply, val_main_call1_c_0_apply, col_apply]
  exact wrap_word _ (col_le (idx_main_call1_v5 i))

/-- Take 1: every index is in range. -/
theorem inRange1 (i : S130816.Idx) : val_main_call1_v12 (F := F) i = 1#1 := by
  refine Host.reduce_andi_one _ _ _ _ i rfl fun j => ?_
  rw [val_main_call1_v11_apply, val_main_call1_v7_apply, val_main_call1_v10_apply, val_main_call1_v6_apply, val_main_call1_v9_apply,
    val_main_call1_v8_apply, val_main_call1_c_1_apply, val_main_call1_c_2_apply, start1_apply]
  exact range_word _ (col_le (idx_main_call1_v5 j))

/-- Take 1: row `k` of the result is the embedding at the pair's column. -/
theorem take1_apply (x0 : (⟨S512x128, .f32⟩ : BufTy).Contents (Elt F)) (k : Fin 130816) (d : Fin 128) :
    val_main_v25 (F := F) x0 (ix2 k d) = x0 (ix2 (colFin k) d) := by
  rw [val_main_v25_apply, val_main_call1_v14_apply, inRange1]
  refine (show Scalar.select (1#1 : BitVec 1) _ _ = val_main_call1_v13 (F := F) x0 (ix2 k d) from if_pos rfl).trans ?_
  exact Routing.gather_row (nb := 512) (B := 128) (n := 130816) gather_S512x128_S130816x1_S130816x128_1_0_n_n_0_1_1128
    rfl rfl rfl rfl rfl x0 (val_main_call1_v5 (F := F)) k d (colFin k) (start1_apply (F := F) (ix2 k (0 : Fin 1))) (by omega)

/-- Take 2: the start index of pair `k` is its row. -/
theorem start2_apply (i : S130816x1.Idx) :
    val_main_call2_v5 (F := F) i = BitVec.ofNat 32 (rowOf (i 0).val) := by
  rw [val_main_call2_v5_apply, val_main_call2_v4_apply, val_main_call2_v1_apply, val_main_call2_v3_apply, val_main_call2_v0_apply,
    val_main_call2_v2_apply, val_main_call2_c_apply, val_main_call2_c_0_apply, row_apply]
  exact wrap_word _ (row_le (idx_main_call2_v5 i))

/-- Take 2: every index is in range. -/
theorem inRange2 (i : S130816.Idx) : val_main_call2_v12 (F := F) i = 1#1 := by
  refine Host.reduce_andi_one _ _ _ _ i rfl fun j => ?_
  rw [val_main_call2_v11_apply, val_main_call2_v7_apply, val_main_call2_v10_apply, val_main_call2_v6_apply, val_main_call2_v9_apply,
    val_main_call2_v8_apply, val_main_call2_c_1_apply, val_main_call2_c_2_apply, start2_apply]
  exact range_word _ (row_le (idx_main_call2_v5 j))

/-- Take 2: entry `k` of the result is the target at the pair's row. -/
theorem take2_apply (x1 : (⟨S512, .i32⟩ : BufTy).Contents (Elt F)) (k : Fin 130816) :
    val_main_v29 (F := F) x1 (ix1 k) = x1 (ix1 (rowFin k)) := by
  rw [val_main_v29_apply, inRange2]
  refine (show Scalar.select (1#1 : BitVec 1) _ _ = val_main_call2_v13 (F := F) x1 (ix1 k) from if_pos rfl).trans ?_
  exact Routing.gather_take1 (N := 512) (n := 130816) gather_S512_S130816x1_S130816_n_0_n_n_0_1_1
    rfl rfl rfl rfl x1 (val_main_call2_v5 (F := F)) k (rowFin k) (start2_apply (F := F) (ix2 k (0 : Fin 1))) (by omega)

/-- Take 3: the start index of pair `k` is its column. -/
theorem start3_apply (i : S130816x1.Idx) :
    val_main_call3_v5 (F := F) i = BitVec.ofNat 32 (colOf (i 0).val) := by
  rw [val_main_call3_v5_apply, val_main_call3_v4_apply, val_main_call3_v1_apply, val_main_call3_v3_apply, val_main_call3_v0_apply,
    val_main_call3_v2_apply, val_main_call3_c_apply, val_main_call3_c_0_apply, col_apply]
  exact wrap_word _ (col_le (idx_main_call3_v5 i))

/-- Take 3: every index is in range. -/
theorem inRange3 (i : S130816.Idx) : val_main_call3_v12 (F := F) i = 1#1 := by
  refine Host.reduce_andi_one _ _ _ _ i rfl fun j => ?_
  rw [val_main_call3_v11_apply, val_main_call3_v7_apply, val_main_call3_v10_apply, val_main_call3_v6_apply, val_main_call3_v9_apply,
    val_main_call3_v8_apply, val_main_call3_c_1_apply, val_main_call3_c_2_apply, start3_apply]
  exact range_word _ (col_le (idx_main_call3_v5 j))

/-- Take 3: entry `k` of the result is the target at the pair's column. -/
theorem take3_apply (x1 : (⟨S512, .i32⟩ : BufTy).Contents (Elt F)) (k : Fin 130816) :
    val_main_v30 (F := F) x1 (ix1 k) = x1 (ix1 (colFin k)) := by
  rw [val_main_v30_apply, inRange3]
  refine (show Scalar.select (1#1 : BitVec 1) _ _ = val_main_call3_v13 (F := F) x1 (ix1 k) from if_pos rfl).trans ?_
  exact Routing.gather_take1 (N := 512) (n := 130816) gather_S512_S130816x1_S130816_n_0_n_n_0_1_1
    rfl rfl rfl rfl x1 (val_main_call3_v5 (F := F)) k (colFin k) (start3_apply (F := F) (ix2 k (0 : Fin 1))) (by omega)

end Cert.Takes

end
-- ==== Proof.RefValue.lean ====
/- The reference's result is the loss. -/
module

public import proofs.«01_k».proof.Proof.Takes
public import proofs.«01_k».proof.Proof.Loss

@[expose] public section

noncomputable section

namespace Cert.RefValue

open Cert.ReferenceIdeal Cert.ReferenceIdeal.Gen Cert.ReferenceIdeal.Read Cert.Triangle Cert.Takes Cert.Loss
open Idealize.ShloMosaic Idealize.ShloMosaic.ValueIdx

/-- Entry `k` of the squared distances is the squared distance of the rows of pair `k`. -/
theorem dist_apply (x : Emb) (k : Fin 130816) :
    val_main_v28 (F := Ideal) x (ix1 k) = sqDist x (rowFin k) (colFin k) := by
  rw [val_main_v28_apply, val_main_cst_apply]
  refine (congrArg (· + _) Ideal.ofBits_zero_f32).trans ?_
  refine (zero_add _).trans (Finset.sum_congr rfl fun d _ => ?_)
  rw [val_main_v27_apply, val_main_v26_apply]
  have e : idx_main_v28 (ix1 k) d = ix2 k d := eq_ix2 _
  rw [e, take0_apply, take1_apply]
  rfl

/-- Whether the targets of pair `k` agree. -/
theorem same_apply (t : Tgt) (k : Fin 130816) :
    val_main_v31 (F := Ideal) t (ix1 k) = IntOp.cmpi .eq (t (ix1 (rowFin k))) (t (ix1 (colFin k))) := by
  rw [val_main_v31_apply, take2_apply, take3_apply]

/-- The two selections of pair `k` add up to its contribution: one of the two is zero. -/
theorem parts_apply (x : Emb) (t : Tgt) (k : Fin 130816) :
    (show EReal from val_main_v37 (F := Ideal) x t (ix1 k)) + (show EReal from val_main_v39 (F := Ideal) x t (ix1 k))
      = pairLoss x t (rowFin k) (colFin k) := by
  have hz : (FloatOps.ofBits .f32 0x00000000#32 : Ideal .f32) = (0 : EReal) := Ideal.ofBits_zero_f32
  have ho : (FloatOps.ofBits .f32 0x3F800000#32 : Ideal .f32) = (1 : EReal) := word_one
  rw [val_main_v37_apply, val_main_v39_apply, val_main_v36_apply, val_main_v35_apply, val_main_v34_apply,
    val_main_v33_apply, val_main_v32_apply, val_main_call4_v0_apply, val_main_call5_v1_apply, val_main_call6_v1_apply,
    val_main_call5_v0_apply, val_main_call6_v0_apply, val_main_cst_6_apply, val_main_cst_8_apply, val_main_cst_5_apply,
    val_main_call4_cst_apply, dist_apply, same_apply, hz, ho]
  unfold pairLoss contribution
  rcases BitVec.eq_zero_or_eq_one (IntOp.cmpi .eq (t (ix1 (rowFin k))) (t (ix1 (colFin k)))) with h | h
  · rw [h]
    exact zero_add _
  · rw [h]
    exact add_zero _

/-- A sum over the one-axis indices is the sum over their coordinate. -/
theorem sum_idx1 {n : Nat} (f : (⟨1, ![n]⟩ : Shape).Idx → EReal) : ∑ i, f i = ∑ k : Fin n, f (ix1 k) :=
  (Fintype.sum_equiv ⟨ix1, fun i => i 0, fun _ => rfl, fun i => (eq_ix1 i).symm⟩ _ _ fun _ => rfl).symm

/-- The reference's result is the loss. -/
theorem result (x : Emb) (t : Tgt) (i : S_.Idx) : val_main_v42 (F := Ideal) x t i = loss x t := by
  have hz : (FloatOps.ofBits .f32 0x00000000#32 : Ideal .f32) = (0 : EReal) := Ideal.ofBits_zero_f32
  have hp : (FloatOps.ofBits .f32 0x47FF8000#32 : Ideal .f32) = ((130816 : ℝ) : EReal) := word_pairs
  rw [val_main_v42_apply, val_main_v41_apply, val_main_v38_apply, val_main_v40_apply, val_main_cst_7_apply,
    val_main_cst_9_apply, val_main_cst_10_apply, hz, hp]
  have hs : ((0 : EReal) + ∑ j : S130816.Idx, (show EReal from val_main_v37 (F := Ideal) x t j))
      + ((0 : EReal) + ∑ j : S130816.Idx, (show EReal from val_main_v39 (F := Ideal) x t j)) = total x t := by
    rw [zero_add, zero_add, ← Finset.sum_add_distrib, sum_idx1 (n := 130816), total, ← sum_pairs (pairLoss x t)]
    exact Finset.sum_congr rfl fun k _ => parts_apply x t k
  refine (congrArg (fun s : EReal => Ideal.div s ((130816 : ℝ) : EReal)) hs).trans ?_
  rw [Ideal.div_coe (by norm_num), one_div]
  rfl

end Cert.RefValue

end
-- ==== Proof.Distance.lean ====
/- Squared distances of finite rows. For rows of finite numbers the squared distance is the sum of the two squared
   lengths less twice the inner product; it is never negative, so taking its maximum with zero changes nothing. -/
module

public import Idealize.ShloMosaic.PureOps.Ideal.Laws

@[expose] public section

noncomputable section

namespace Cert.Distance

/-- A sum of real numbers may be taken before or after they are read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For finite `u` and `v`: the maximum of `Σ u² + Σ v² − 2 Σ u v` and zero is `Σ (u − v)²`. -/
theorem expand {n : Nat} (u v : Fin n → EReal) (hu : ∀ i, u i ≠ ⊤ ∧ u i ≠ ⊥) (hv : ∀ i, v i ≠ ⊤ ∧ v i ≠ ⊥) :
    max ((∑ i, u i * u i) + (∑ i, v i * v i) - ((2 : ℝ) : EReal) * ∑ i, u i * v i) 0
      = ∑ i, (u i - v i) * (u i - v i) := by
  obtain ⟨x, rfl⟩ : ∃ x : Fin n → ℝ, u = fun i => (x i : EReal) :=
    ⟨fun i => (u i).toReal, funext fun i => (EReal.coe_toReal (hu i).1 (hu i).2).symm⟩
  obtain ⟨y, rfl⟩ : ∃ y : Fin n → ℝ, v = fun i => (y i : EReal) :=
    ⟨fun i => (v i).toReal, funext fun i => (EReal.coe_toReal (hv i).1 (hv i).2).symm⟩
  simp only [← EReal.coe_mul, ← EReal.coe_sub, ← coe_sum, ← EReal.coe_add]
  have e : (∑ i, x i * x i) + (∑ i, y i * y i) - 2 * ∑ i, x i * y i = ∑ i, (x i - y i) * (x i - y i) := by
    rw [Finset.mul_sum, ← Finset.sum_add_distrib, ← Finset.sum_sub_distrib]
    exact Finset.sum_congr rfl fun i _ => by ring
  rw [e]
  refine max_eq_left ?_
  exact_mod_cast Finset.sum_nonneg fun i _ => mul_self_nonneg (x i - y i)

end Cert.Distance

end
-- ==== Proof.KernelBody.lean ====
/- What the kernel's body computes from finite embeddings and the targets held as one column: the loss. -/
module

public import proofs.«01_k».proof.Proof.Gen.KernelIdeal
public import proofs.«01_k».proof.Proof.Gen.KernelIdeal.Skeleton
public import proofs.«01_k».proof.Proof.Loss
public import proofs.«01_k».proof.Proof.Distance
public import Idealize.ShloMosaic.Lib.Pipeline.Value
public import Idealize.ShloMosaic.Lib.MatmulPlain
public import Idealize.ShloMosaic.Lib.StableHlo.Predicate

@[expose] public section

noncomputable section

namespace Cert.KernelBody

open Cert.KernelIdeal Cert.KernelIdeal.Gen Cert.Loss
open Idealize.ShloMosaic Idealize.ShloMosaic.ValueIdx Idealize.ShloMosaic.StableHlo.Predicate

/-- The column of the squared lengths. -/
def lengths (x : FVec Ideal S512x128 .f32) : FVec Ideal S512x1 .f32 :=
  shapeCast S512x1 (multiReduction .add [1] S512 (mulf x x) 0x00000000#32 reduces_S512x128_S512 (.inl rfl) rfl)
    shapeCasts_S512_S512x1

/-- The table of inner products of the rows rounded to bf16, a rounding that changes nothing here. -/
def inner (x : FVec Ideal S512x128 .f32) : FVec Ideal S512x512 .f32 :=
  matmul dot_S512x128_S512x128_S512x512_1_1_0_0_n_n none (truncf .bf16 x bitsLt_bf16_f32) (truncf .bf16 x bitsLt_bf16_f32)
    (constant S512x512 .f32 0x00000000#32)

/-- The table of squared distances, through lengths and inner products, clamped at zero. -/
def dists (x : FVec Ideal S512x128 .f32) : FVec Ideal S512x512 .f32 :=
  maximumf (subf (addf (broadcastTo S512x512 (lengths x) broadcasts_S512x1_S512x512)
      (broadcastTo S512x512 (transpose S1x512 [1, 0] (lengths x) transposes_S512x1_p1_0_S1x512) broadcasts_S1x512_S512x512))
      (mulf (broadcast S512x512 (Scalar.ofBits .f32 0x40000000#32)) (inner x)))
    (broadcast S512x512 (Scalar.ofBits .f32 0x00000000#32))

/-- The table of whether two targets agree. -/
def same (t : IVec S512x1 32) : IVec S512x512 1 :=
  cmpi .eq (broadcastTo S512x512 (shapeCast S512x1 t shapeCasts_S512x1_S512x1) broadcasts_S512x1_S512x512)
    (broadcastTo S512x512 (transpose S1x512 [1, 0] (shapeCast S512x1 t shapeCasts_S512x1_S512x1)
      transposes_S512x1_p1_0_S1x512) broadcasts_S1x512_S512x512)

/-- The table of what a distance falls short of 1, or zero. -/
def short (x : FVec Ideal S512x128 .f32) : FVec Ideal S512x512 .f32 :=
  maximumf (subf (broadcast S512x512 (Scalar.ofBits .f32 0x3F800000#32)) (sqrt (dists x)))
    (broadcast S512x512 (Scalar.ofBits .f32 0x00000000#32))

/-- The table of contributions right of the diagonal, zero elsewhere. -/
def contributions (x : FVec Ideal S512x128 .f32) (t : IVec S512x1 32) : FVec Ideal S512x512 .f32 :=
  select (cmpi .slt (iota .tc S512x512 32 [0] iota_S512x512_d0_w32) (iota .tc S512x512 32 [1] iota_S512x512_d1_w32))
    (select (same t) (dists x) (mulf (short x) (short x))) (broadcast S512x512 (Scalar.ofBits .f32 0x00000000#32))

/-- The sum of a table, as one number. -/
def tableSum (w : FVec Ideal S512x512 .f32) : Ideal .f32 :=
  extractAt ![0, 0, 0] (shapeCast S1x1x1 (multiReduction .add [1, 2] S1 (shapeCast S1x512x512 w shapeCasts_S512x512_S1x512x512)
    0x00000000#32 reduces_S1x512x512_S1 (.inl rfl) rfl) shapeCasts_S1_S1x1x1) inpos_S1x1x1_p0_0_0

/-- The body's one stored value is the sum of the table of contributions times the named reciprocal. -/
theorem body_eq (x : FVec Ideal S512x128 .f32) (t : IVec S512x1 32) (i : S1x1.Idx) :
    k0_pay1 (F := Ideal) x t i
      = Scalar.mulf (tableSum (contributions x t)) (Named.named κ "inv_n_pairs" 0x37004020#32) := rfl

/-- A broadcast column reads its row's entry. -/
theorem col_apply {α : Type} (v : S512x1.Idx → α) (a b : Fin 512) :
    broadcastTo S512x512 v broadcasts_S512x1_S512x512 (ix2 a b) = v (ix2 a (0 : Fin 1)) :=
  broadcastTo_apply v _ _ _ fun c => match c with
    | ⟨0, _⟩ => rfl
    | ⟨1, _⟩ => rfl

/-- A broadcast transposed column reads its column's entry. -/
theorem row_apply {α : Type} (v : S512x1.Idx → α) (a b : Fin 512) :
    broadcastTo S512x512 (transpose S1x512 [1, 0] v transposes_S512x1_p1_0_S1x512) broadcasts_S1x512_S512x512 (ix2 a b)
      = v (ix2 b (0 : Fin 1)) := by
  refine (broadcastTo_apply _ _ (ix2 a b) (ix2 (0 : Fin 1) b) fun c => match c with
    | ⟨0, _⟩ => rfl
    | ⟨1, _⟩ => rfl).trans ?_
  exact transpose_apply _ v _ _ _ fun c => match c with
    | ⟨0, _⟩ => rfl
    | ⟨1, _⟩ => rfl

/-- An entry of the column of squared lengths. -/
theorem lengths_apply (x : FVec Ideal S512x128 .f32) (a : Fin 512) :
    lengths x (ix2 a (0 : Fin 1)) = ∑ d : Fin 128, (show EReal from x (ix2 a d)) * (show EReal from x (ix2 a d)) := by
  refine (shapeCast_apply _ _ (ix2 a (0 : Fin 1)) (ix1 a) ?_).trans ?_
  · rw [Shape.rowMajor_val_one, Shape.rowMajor_val_two]
    show a.val = a.val * 1 + 0
    omega
  · refine (Ideal.multiReduction_add_single (mulf x x) _ reduces_S512x128_S512 (.inl rfl) rfl (ix1 a)).trans ?_
    refine Finset.sum_congr rfl fun d _ => ?_
    have e : reduces_S512x128_S512.lift (ix1 a) d = ix2 a d := funext fun c => Fin.ext (match c with
      | ⟨0, _⟩ => rfl
      | ⟨1, _⟩ => rfl)
    rw [e]
    rfl

/-- An entry of the table of inner products. -/
theorem inner_apply (x : FVec Ideal S512x128 .f32) (a b : Fin 512) :
    inner x (ix2 a b) = ∑ d : Fin 128, (show EReal from x (ix2 a d)) * (show EReal from x (ix2 b d)) := by
  have e : dot_S512x128_S512x128_S512x512_1_1_0_0_n_n = DotDims.transposedRhs 512 128 512 := rfl
  unfold inner
  rw [e]
  refine (Ideal.matmul_transposedRhs_apply none _ _ _ a b).trans ?_
  refine (congrArg (· + _) Ideal.ofBits_zero_f32).trans ?_
  exact zero_add _

/-- An entry of the table of squared distances, for finite embeddings. -/
theorem dists_apply (x : Emb) (hx : ∀ i, x i ≠ ⊤ ∧ x i ≠ ⊥) (a b : Fin 512) : dists x (ix2 a b) = sqDist x a b := by
  have h : dists x (ix2 a b)
      = max ((∑ d : Fin 128, x (ix2 a d) * x (ix2 a d)) + (∑ d : Fin 128, x (ix2 b d) * x (ix2 b d))
          - ((2 : ℝ) : EReal) * ∑ d : Fin 128, x (ix2 a d) * x (ix2 b d)) 0 := by
    unfold dists
    rw [maximumf_apply, subf_apply, addf_apply, mulf_apply, broadcast_apply, broadcast_apply, col_apply, row_apply,
      lengths_apply, lengths_apply, inner_apply]
    show max (_ - Ideal.ofBits .f32 0x40000000#32 * _) (Ideal.ofBits .f32 0x00000000#32) = _
    rw [word_two, Ideal.ofBits_zero_f32]
  rw [h]
  exact Distance.expand (fun d => x (ix2 a d)) (fun d => x (ix2 b d)) (fun d => hx _) (fun d => hx _)

/-- An entry of the table of agreement. -/
theorem same_apply (t : IVec S512x1 32) (a b : Fin 512) :
    same t (ix2 a b) = IntOp.cmpi .eq (t (ix2 a (0 : Fin 1))) (t (ix2 b (0 : Fin 1))) := by
  unfold same
  rw [shapeCast_self]
  show IntOp.cmpi .eq (broadcastTo S512x512 t _ (ix2 a b)) (broadcastTo S512x512 _ _ (ix2 a b)) = _
  rw [col_apply, row_apply]

/-- An entry of the table of contributions, for finite embeddings. -/
theorem contributions_apply (x : Emb) (hx : ∀ i, x i ≠ ⊤ ∧ x i ≠ ⊥) (t : IVec S512x1 32) (a b : Fin 512) :
    contributions x t (ix2 a b)
      = if a.val < b.val then pairLoss x (fun i => t (ix2 (i 0) (0 : Fin 1))) a b else 0 := by
  have hs : short x (ix2 a b) = max (1 - Ideal.sqrt (sqDist x a b)) 0 := by
    unfold short
    rw [maximumf_apply, subf_apply, broadcast_apply, broadcast_apply]
    show max (Ideal.ofBits .f32 0x3F800000#32 - Ideal.sqrt (dists x (ix2 a b))) (Ideal.ofBits .f32 0x00000000#32) = _
    rw [word_one, Ideal.ofBits_zero_f32, dists_apply x hx]
  have hm : IntOp.cmpi .slt (BitVec.ofNat 32 a.val) (BitVec.ofNat 32 b.val) = 1#1 ↔ a.val < b.val := by
    have ha := a.isLt
    have hb := b.isLt
    have ea : (BitVec.ofNat 32 a.val).toNat = a.val := by rw [BitVec.toNat_ofNat]; omega
    have eb : (BitVec.ofNat 32 b.val).toNat = b.val := by rw [BitVec.toNat_ofNat]; omega
    rw [slt_iff_toNat (by omega) (by omega), ea, eb]
  unfold contributions
  rw [select_apply, select_apply, mulf_apply, broadcast_apply, same_apply, dists_apply x hx, hs]
  show Scalar.select (IntOp.cmpi .slt (iota .tc S512x512 32 [0] _ (ix2 a b)) (iota .tc S512x512 32 [1] _ (ix2 a b))) _
    (Ideal.ofBits .f32 0x00000000#32) = _
  rw [iota_single_apply, iota_single_apply, Ideal.ofBits_zero_f32]
  exact if_congr hm rfl rfl

/-- The sum of a table is the sum of its entries. -/
theorem tableSum_eq (w : FVec Ideal S512x512 .f32) :
    tableSum w = ∑ a : Fin 512, ∑ b : Fin 512, (show EReal from w (ix2 a b)) := by
  unfold tableSum extractAt
  refine (shapeCast_apply _ _ _ (ix1 (0 : Fin 1)) ?_).trans ?_
  · rw [Shape.rowMajor_val_one, Shape.rowMajor_val_three]
    rfl
  · refine (Ideal.multiReduction_add_total _ _ reduces_S1x512x512_S1 (fun c => match c with | ⟨0, _⟩ => rfl) (.inl rfl)
      rfl (ix1 (0 : Fin 1))).trans ?_
    let e : S1x512x512.Idx ≃ (⟨2, ![512, 512]⟩ : Shape).Idx := ⟨fun i => ix2 (i 1) (i 2), fun j => ix3 (0 : Fin 1) (j 0) (j 1),
      fun i => funext fun c => match c with
        | ⟨0, _⟩ => Subsingleton.elim (α := Fin 1) _ _
        | ⟨1, _⟩ => rfl
        | ⟨2, _⟩ => rfl,
      fun j => (eq_ix2 j).symm⟩
    refine (Fintype.sum_equiv e _ (fun j => (show EReal from w j)) fun i => ?_).trans (sum_idx2 _)
    refine shapeCast_apply w _ i (e i) ?_
    rw [Shape.rowMajor_val_two, Shape.rowMajor_val_three]
    have h0 : (i 0).val < 1 := (i 0).isLt
    show (i 1).val * 512 + (i 2).val = ((i 0).val * 512 + (i 1).val) * 512 + (i 2).val
    omega

/-- The named constant is the exact reciprocal of the number of pairs. -/
theorem named_eq : (Named.named κ "inv_n_pairs" 0x37004020#32 : Ideal .f32) = ((130816⁻¹ : ℝ) : EReal) := rfl

/-- The body's result: the loss. -/
theorem body (x : Emb) (hx : ∀ i, x i ≠ ⊤ ∧ x i ≠ ⊥) (t : IVec S512x1 32) (i : S1x1.Idx) :
    k0_pay1 (F := Ideal) x t i = loss x (fun j => t (ix2 (j 0) (0 : Fin 1))) := by
  rw [body_eq, named_eq, tableSum_eq]
  refine congrArg (fun s : EReal => s * ((130816⁻¹ : ℝ) : EReal)) ?_
  exact Finset.sum_congr rfl fun a _ => Finset.sum_congr rfl fun b _ => contributions_apply x hx t a b

end Cert.KernelBody

end
-- ==== Proof.KernelRun.lean ====
/- What a run of the kernel leaves in memory: the loss of the two arguments, and the arguments as they were. -/
module

public import proofs.«01_k».proof.Proof.Gen.KernelIdeal.Frame
public import proofs.«01_k».proof.Proof.KernelBody
public import Idealize.ShloMosaic.Lib.Pipeline.Value
public import Idealize.ShloMosaic.Lib.Pipeline.ValueKit.Geometry
public import Idealize.ShloMosaic.Lib.StableHlo.Run

@[expose] public section

noncomputable section

namespace Cert.KernelRun

open Cert.KernelIdeal Cert.KernelIdeal.Gen Cert.Loss
open Idealize.ShloMosaic Idealize.ShloMosaic.TcCoe Idealize.ShloMosaic.ValueIdx Idealize.SL.Sem

variable (m : (ℓ : Loc nD τ sig) → Buf (Elt Ideal) ℓ) (ρ : Dev nD → PrngReg)

/-- Offsets of zero on two axes, however they are spelt. -/
theorem zero_pair : (![0, 0] : Fin 2 → Nat) = fun _ => 0 := funext fun a => by fin_cases a <;> rfl

/-- The one output block holds the body's value at the two input blocks. -/
theorem out_eq (x : Vec Ideal S512x128 .f32) (t : Vec Ideal S512x1 .i32) : out0_2 (F := Ideal) x t = k0_pay1 x t := by
  unfold out0_2
  rw [View.canon_unit_zero zero_pair, View.ld_unit_zero zero_pair, View.ld_unit_zero zero_pair]

/-- The block of the embeddings is the whole array of the embeddings, as launched. -/
theorem block_emb (c : Dev nD) (t : Fin cfg0.N) : iblk m c 0 t = m ((c : Thread nD τ).loc main_arg0) := by
  rw [← V_main_arg0 m c]
  unfold iblk
  exact Memref.read_access_unit_zero (Elt Ideal) main_arg0 (funext fun _ => Nat.zero_mul _) _ _

/-- The block of the targets is the whole column of the targets. -/
theorem block_col (c : Dev nD) (t : Fin cfg0.N) : iblk m c 1 t = V m c main_v0 := by
  unfold iblk
  exact Memref.read_access_unit_zero (Elt Ideal) main_v0 (funext fun _ => Nat.zero_mul _) _ _

/-- The column of the targets is the targets as launched, reshaped. -/
theorem column (c : Dev nD) :
    V m c main_v0 = shapeCast S512x1 (m ((c : Thread nD τ).loc main_arg1)) shapeCasts_S512_S512x1 := by
  rfl

/-- Row `j` of the column is entry `j` of the targets. -/
theorem column_apply (c : Dev nD) (j : S512.Idx) :
    V m c main_v0 (ix2 (j 0) (0 : Fin 1)) = m ((c : Thread nD τ).loc main_arg1) j := by
  rw [column]
  refine (shapeCast_apply _ _ _ j ?_)
  rw [Shape.rowMajor_val_one, Shape.rowMajor_val_two]
  show (j 0).val = (j 0).val * 1 + 0
  omega

/-- The embeddings core `c` is launched with. -/
abbrev embAt (c : Dev nD) : Emb := m ((c : Thread nD τ).loc main_arg0)

/-- The targets core `c` is launched with. -/
abbrev tgtAt (c : Dev nD) : Tgt := m ((c : Thread nD τ).loc main_arg1)

/-- The loss of the two arguments core `c` is launched with. -/
abbrev lossAt (c : Dev nD) : EReal := loss (embAt m c) (tgtAt m c)

/-- The one entry that the region writes is the loss. -/
theorem out_loss (c : Dev nD) (hx : ∀ i, embAt m c i ≠ ⊤ ∧ embAt m c i ≠ ⊥) (t : Fin cfg0.N) :
    out0_2 (F := Ideal) (iblk m c 0 t) (iblk m c 1 t) = fun _ => lossAt m c := by
  rw [out_eq, block_emb, block_col]
  funext i
  refine (Cert.KernelBody.body _ hx _ i).trans ?_
  exact congrArg (loss _) (funext fun j => column_apply m c j)

/-- The array the region writes ends holding the loss. -/
theorem array_loss (c : Dev nD) (hx : ∀ i, embAt m c i ≠ ⊤ ∧ embAt m c i ≠ ⊥) :
    (dats m 0 c).arrAt 2 cfg0.N = fun _ => lossAt m c := by
  refine (dats m 0 c).arrAt_eq_of_covers 2 _ (by decide +kernel) fun t _ y => ?_
  rw [after0_2, out_loss m c hx t]
  rfl

/-- The result, which the host reshapes that array into, ends holding the loss. -/
theorem result_loss (c : Dev nD) (hx : ∀ i, embAt m c i ≠ ⊤ ∧ embAt m c i ≠ ⊥) :
    Pipeline.afterTail₀ cfgs (dats m) 0 (V0 m) [hostOps1] c main_v2 = fun _ => lossAt m c := by
  unfold Pipeline.afterTail₀
  refine (congrArg (fun A => shapeCast S_ A shapeCasts_S1x1_S_) (?_ : Pipeline.withArrays (cfgs 0).spec c (V0 m c)
    (fun w => (dats m 0 c).arrAt w (cfgs 0).N) (Proc.devRef .tc main_v1) = fun _ => lossAt m c))
  exact (Pipeline.withArrays_arr spec0 (by decide) c _ _ 2).trans (array_loss m c hx)

/-- A run of the kernel on finite embeddings leaves the loss in its result and the arguments as they were. -/
theorem run (hx : ∀ c i, embAt m c i ≠ ⊤ ∧ embAt m c i ≠ ⊥) :
    θ_run defs (onTc (τ := τ) (main (F := Ideal))) ⟨m, fun _ => 0, ρ⟩ fun r => ∀ c : Dev nD,
      r.2.mem ((c : Thread nD τ).loc main_v2) = (fun _ => lossAt m c)
      ∧ r.2.mem ((c : Thread nD τ).loc main_arg0) = m ((c : Thread nD τ).loc main_arg0)
      ∧ r.2.mem ((c : Thread nD τ).loc main_arg1) = m ((c : Thread nD τ).loc main_arg1) := by
  run_from (run_main m ρ)
  · exact result_loss m c (hx c)
  · exact W_main_arg1 m (dats m) c

end Cert.KernelRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Finite
public import proofs.«01_k».proof.Proof.RefValue
public import proofs.«01_k».proof.Proof.KernelRun
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Loss

/-- The kernel terminates without a fault, leaves its arguments as they were and every semaphore counter at zero. -/
theorem frame_kernel : Cert.quiescent_Kernel := fun m ρ _ => Cert.Kernel.Gen.frame m ρ

/-- So does the idealized kernel, whatever its arguments. -/
theorem frame_ideal : Cert.quiescent_KernelIdeal := fun m ρ _ => Cert.KernelIdeal.Gen.frame m ρ

/-- So does the idealized kernel on finite embeddings. -/
theorem frame_ideal_finite : Cert.quiescent_KernelIdeal_pre_finite := fun m ρ _ => Cert.KernelIdeal.Gen.frame m ρ

/-- So does the reference, whatever its arguments. It has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference on finite embeddings. -/
theorem frame_reference_finite : Cert.quiescent_ReferenceIdeal_pre_finite := fun m ρ _ => frame_reference m ρ trivial

/-- The one rewritten constant of the kernel stands for the reciprocal of the number of pairs. -/
theorem preserves : Cert.preserves_Kernel_KernelIdeal :=
  IdealRules.named_const.statement Cert.KernelIdeal.κ "inv_n_pairs" .f32 0x37004020#32 ((130816⁻¹ : ℝ) : EReal) rfl

/-- A run of the reference leaves the loss of its two arguments in its result, and the arguments as they were. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v42)
          = (fun _ => loss (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run Cert.ReferenceIdeal.defs _ _).mono
    (fun _ h c => ⟨((h c).1.trans (Cert.ReferenceIdeal.Read.val_main_v42_eq _)).trans
      (funext fun i => Cert.RefValue.result _ _ i), (h c).2⟩)
    (Cert.ReferenceIdeal.Value.run (F := Ideal) m ρ)

/-- On finite embeddings the idealized kernel and the reference end with the same result, the loss. -/
theorem algebraic : Cert.algebraic_KernelIdeal_ReferenceIdeal_pre_finite := by
  intro m ρ m' ρ' hpre hagree
  refine ⟨fun c => fun _ => Cert.KernelRun.lossAt m c,
    Cert.KernelRun.run m ρ fun c => Cert.Finite.entries _ _ (hpre c), ?_⟩
  refine (θ_run Cert.ReferenceIdeal.defs _ _).mono (fun _ h c => ⟨(h c).1.trans ?_, (h c).2⟩) (reference_run m' ρ')
  rw [(hagree c).1, (hagree c).2]
  rfl

/-- All the claims. -/
theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, preserves, algebraic⟩

end Cert.Proof

end
